-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S512x7600 Cert.KernelIdeal.S256x7600

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x256x100x152 : Shape := ⟨4, ![16, 256, 100, 152]⟩
abbrev S16x100x4 : Shape := ⟨3, ![16, 100, 4]⟩
abbrev S16x100 : Shape := ⟨2, ![16, 100]⟩
abbrev S_ : Shape := ⟨0, ![]⟩

class Facts : Prop where
  bcast_S_S16x256x100x152 : S_.BroadcastsInDim S16x256x100x152 (![] : Fin 0 → Fin S16x256x100x152.rank)

variable [Facts]

def fn {F : FTy → Type} [FloatOps F] (main_arg0 : FVec F S16x256x100x152 .f32) (main_arg1 : FVec F S16x100x4 .f32) (main_arg2 : IVec S16x100 32) (main_arg3 : IVec S_ 32) (main_arg4 : IVec S_ 32) : IVec S16x256x100x152 1 :=
  let main_v0 : FVec F S16x256x100x152 .f32 := Host.absf main_arg0
  let main_cst : FVec F S_ .f32 := constant S_ .f32 0x7F800000#32
  let main_v1 : FVec F S16x256x100x152 .f32 := broadcastInDim S16x256x100x152 ![] bcast_S_S16x256x100x152 main_cst
  let main_v2 : IVec S16x256x100x152 1 := cmpf .olt main_v0 main_v1
  main_v2
-- ==== Kernel.lean ====
abbrev S16x256x100x152 : Shape := ⟨4, ![16, 256, 100, 152]⟩
abbrev S16x100x4 : Shape := ⟨3, ![16, 100, 4]⟩
abbrev S16x100 : Shape := ⟨2, ![16, 100]⟩
abbrev S_ : Shape := ⟨0, ![]⟩
abbrev S16x100x1 : Shape := ⟨3, ![16, 100, 1]⟩
abbrev S16x1x100 : Shape := ⟨3, ![16, 1, 100]⟩
abbrev S16x4x100 : Shape := ⟨3, ![16, 4, 100]⟩
abbrev S16x256x15200 : Shape := ⟨3, ![16, 256, 15200]⟩
abbrev S16x256x7600x2 : Shape := ⟨4, ![16, 256, 7600, 2]⟩
abbrev S16x256x2x7600 : Shape := ⟨4, ![16, 256, 2, 7600]⟩
abbrev S16x512x7600 : Shape := ⟨3, ![16, 512, 7600]⟩
abbrev S16x256x100 : Shape := ⟨3, ![16, 256, 100]⟩
abbrev S1x512x7600 : Shape := ⟨3, ![1, 512, 7600]⟩
abbrev S1x4x100 : Shape := ⟨3, ![1, 4, 100]⟩
abbrev S1x1x100 : Shape := ⟨3, ![1, 1, 100]⟩
abbrev S1x256x100 : Shape := ⟨3, ![1, 256, 100]⟩
abbrev S4x100 : Shape := ⟨2, ![4, 100]⟩
abbrev S1x100 : Shape := ⟨2, ![1, 100]⟩
abbrev S152x100 : Shape := ⟨2, ![152, 100]⟩
abbrev S100x100 : Shape := ⟨2, ![100, 100]⟩
abbrev S100x1x100 : Shape := ⟨3, ![100, 1, 100]⟩
abbrev S1x152x100 : Shape := ⟨3, ![1, 152, 100]⟩
abbrev S100x152x100 : Shape := ⟨3, ![100, 152, 100]⟩
abbrev S15200x100 : Shape := ⟨2, ![15200, 100]⟩
abbrev S7600x2x100 : Shape := ⟨3, ![7600, 2, 100]⟩
abbrev S7600x1x100 : Shape := ⟨3, ![7600, 1, 100]⟩
abbrev S7600x100 : Shape := ⟨2, ![7600, 100]⟩
abbrev S512x7600 : Shape := ⟨2, ![512, 7600]⟩
abbrev S256x7600 : Shape := ⟨2, ![256, 7600]⟩
abbrev S256x100 : Shape := ⟨2, ![256, 100]⟩
abbrev S16x100x256 : Shape := ⟨3, ![16, 100, 256]⟩

abbrev nBuf : Space → Nat
  | .hbm => 88
  | .vmem => 8
  | .smem => 0
  | _ => 0

abbrev bufTy : (tb : Table) → Fin (tcTables nBuf tb) → BufTy
  | .hbm, ⟨0, _⟩ => ⟨S16x256x100x152, .f32⟩
  | .hbm, ⟨1, _⟩ => ⟨S16x100x4, .f32⟩
  | .hbm, ⟨2, _⟩ => ⟨S16x100, .i32⟩
  | .hbm, ⟨3, _⟩ => ⟨S_, .i32⟩
  | .hbm, ⟨4, _⟩ => ⟨S_, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x100x1, .f32⟩
  | .hbm, ⟨12, _⟩ => ⟨S16x100, .f32⟩
  | .hbm, ⟨13, _⟩ => ⟨S16x100x1, .f32⟩
  | .hbm, ⟨14, _⟩ => ⟨S16x100, .f32⟩
  | .hbm, ⟨15, _⟩ => ⟨S16x100x1, .f32⟩
  | .hbm, ⟨16, _⟩ => ⟨S16x100, .f32⟩
  | .hbm, ⟨17, _⟩ => ⟨S16x100x1, .f32⟩
  | .hbm, ⟨18, _⟩ => ⟨S16x100, .f32⟩
  | .hbm, ⟨19, _⟩ => ⟨S16x100, .f32⟩
  | .hbm, ⟨20, _⟩ => ⟨S16x100, .f32⟩
  | .hbm, ⟨21, _⟩ => ⟨S16x100, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S16x100, .i32⟩
  | .hbm, ⟨26, _⟩ => ⟨S16x100, .i32⟩
  | .hbm, ⟨27, _⟩ => ⟨S_, .i32⟩
  | .hbm, ⟨28, _⟩ => ⟨S16x100, .i32⟩
  | .hbm, ⟨29, _⟩ => ⟨S16x100, .i32⟩
  | .hbm, ⟨30, _⟩ => ⟨S16x100, .f32⟩
  | .hbm, ⟨31, _⟩ => ⟨S16x100, .f32⟩
  | .hbm, ⟨32, _⟩ => ⟨S16x100, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S16x100, .i32⟩
  | .hbm, ⟨37, _⟩ => ⟨S16x100, .i32⟩
  | .hbm, ⟨38, _⟩ => ⟨S_, .i32⟩
  | .hbm, ⟨39, _⟩ => ⟨S16x100, .i32⟩
  | .hbm, ⟨40, _⟩ => ⟨S16x100, .i32⟩
  | .hbm, ⟨41, _⟩ => ⟨S16x100, .f32⟩
  | .hbm, ⟨42, _⟩ => ⟨S16x100, .f32⟩
  | .hbm, ⟨43, _⟩ => ⟨S16x100, .i32⟩
  | .hbm, ⟨44, _⟩ => ⟨S_, .i32⟩
  | .hbm, ⟨45, _⟩ => ⟨S16x100, .i32⟩
  | .hbm, ⟨46, _⟩ => ⟨S16x100, .i32⟩
  | .hbm, ⟨47, _⟩ => ⟨S_, .i32⟩
  | .hbm, ⟨48, _⟩ => ⟨S16x100, .i32⟩
  | .hbm, ⟨49, _⟩ => ⟨S16x100, .i32⟩
  | .hbm, ⟨50, _⟩ => ⟨S16x100, .i32⟩
  | .hbm, ⟨51, _⟩ => ⟨S16x100, .f32⟩
  | .hbm, ⟨52, _⟩ => ⟨S16x100, .f32⟩
  | .hbm, ⟨53, _⟩ => ⟨S16x100, .i32⟩
  | .hbm, ⟨54, _⟩ => ⟨S_, .i32⟩
  | .hbm, ⟨55, _⟩ => ⟨S16x100, .i32⟩
  | .hbm, ⟨56, _⟩ => ⟨S16x100, .i32⟩
  | .hbm, ⟨57, _⟩ => ⟨S_, .i32⟩
  | .hbm, ⟨58, _⟩ => ⟨S16x100, .i32⟩
  | .hbm, ⟨59, _⟩ => ⟨S16x100, .i32⟩
  | .hbm, ⟨60, _⟩ => ⟨S16x100, .i32⟩
  | .hbm, ⟨61, _⟩ => ⟨S16x100, .i32⟩
  | .hbm, ⟨62, _⟩ => ⟨S16x100, .i32⟩
  | .hbm, ⟨63, _⟩ => ⟨S16x1x100, .i32⟩
  | .hbm, ⟨64, _⟩ => ⟨S16x1x100, .i32⟩
  | .hbm, ⟨65, _⟩ => ⟨S16x1x100, .i32⟩
  | .hbm, ⟨66, _⟩ => ⟨S16x1x100, .i32⟩
  | .hbm, ⟨67, _⟩ => ⟨S16x4x100, .i32⟩
  | .hbm, ⟨68, _⟩ => ⟨S16x100, .i32⟩
  | .hbm, ⟨69, _⟩ => ⟨S16x100, .f32⟩
  | .hbm, ⟨70, _⟩ => ⟨S_, .i32⟩
  | .hbm, ⟨71, _⟩ => ⟨S16x100, .i32⟩
  | .hbm, ⟨72, _⟩ => ⟨S16x100, .i1⟩
  | .hbm, ⟨73, _⟩ => ⟨S_, .f32⟩
  | .hbm, ⟨74, _⟩ => ⟨S16x100, .f32⟩
  | .hbm, ⟨75, _⟩ => ⟨S16x100, .f32⟩
  | .hbm, ⟨76, _⟩ => ⟨S_, .f32⟩
  | .hbm, ⟨77, _⟩ => ⟨S_, .f32⟩
  | .hbm, ⟨78, _⟩ => ⟨S16x100, .f32⟩
  | .hbm, ⟨79, _⟩ => ⟨S16x100, .f32⟩
  | .hbm, ⟨80, _⟩ => ⟨S16x1x100, .f32⟩
  | .hbm, ⟨81, _⟩ => ⟨S16x256x15200, .f32⟩
  | .hbm, ⟨82, _⟩ => ⟨S16x256x15200, .bf16⟩
  | .hbm, ⟨83, _⟩ => ⟨S16x256x7600x2, .bf16⟩
  | .hbm, ⟨84, _⟩ => ⟨S16x256x2x7600, .bf16⟩
  | .hbm, ⟨85, _⟩ => ⟨S16x512x7600, .bf16⟩
  | .hbm, ⟨86, _⟩ => ⟨S16x256x100, .f32⟩
  | .hbm, ⟨87, _⟩ => ⟨S16x100x256, .f32⟩
  | .local _ .vmem, ⟨0, _⟩ => ⟨S1x512x7600, .bf16⟩
  | .local _ .vmem, ⟨1, _⟩ => ⟨S1x512x7600, .bf16⟩
  | .local _ .vmem, ⟨2, _⟩ => ⟨S1x4x100, .i32⟩
  | .local _ .vmem, ⟨3, _⟩ => ⟨S1x4x100, .i32⟩
  | .local _ .vmem, ⟨4, _⟩ => ⟨S1x1x100, .f32⟩
  | .local _ .vmem, ⟨5, _⟩ => ⟨S1x1x100, .f32⟩
  | .local _ .vmem, ⟨6, _⟩ => ⟨S1x256x100, .f32⟩
  | .local _ .vmem, ⟨7, _⟩ => ⟨S1x256x100, .f32⟩
  | _, _ => ⟨S16x256x100x152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_call2_v0 : Ref sig .tc := ⟨.hbm, 77, rfl⟩
abbrev main_call2_v1 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x7600 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x100 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S16x256x100x152 : Shape := ⟨4, ![16, 256, 100, 152]⟩
abbrev S16x100x4 : Shape := ⟨3, ![16, 100, 4]⟩
abbrev S16x100 : Shape := ⟨2, ![16, 100]⟩
abbrev S_ : Shape := ⟨0, ![]⟩
abbrev S16x100x1 : Shape := ⟨3, ![16, 100, 1]⟩
abbrev S16x256x101x153 : Shape := ⟨4, ![16, 256, 101, 153]⟩
abbrev S16x100x2 : Shape := ⟨3, ![16, 100, 2]⟩
abbrev S16x256x100 : Shape := ⟨3, ![16, 256, 100]⟩
abbrev S16x100x256 : Shape := ⟨3, ![16, 100, 256]⟩

abbrev nBuf : Space → Nat
  | .hbm => 161
  | .vmem => 0
  | .smem => 0
  | _ => 0

abbrev hbmTy0_0 (i : Nat) : BufTy := match i % 128 with
  | 0 => ⟨S16x256x100x152, .f32⟩
  | 1 => ⟨S16x100x4, .f32⟩
  | 2 => ⟨S16x100, .i32⟩
  | 3 => ⟨S_, .i32⟩
  | 4 => ⟨S_, .i32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S16x100x1, .f32⟩
  | 12 => ⟨S16x100, .f32⟩
  | 13 => ⟨S16x100x1, .f32⟩
  | 14 => ⟨S16x100, .f32⟩
  | 15 => ⟨S16x100x1, .f32⟩
  | 16 => ⟨S16x100, .f32⟩
  | 17 => ⟨S16x100x1, .f32⟩
  | 18 => ⟨S16x100, .f32⟩
  | 19 => ⟨S16x100, .f32⟩
  | 20 => ⟨S16x100, .f32⟩
  | 21 => ⟨S16x100, .i32⟩
  | 22 => ⟨S_, .i32⟩
  | 23 => ⟨S_, .i32⟩
  | 24 => ⟨S_, .i32⟩
  | 25 => ⟨S16x100, .i32⟩
  | 26 => ⟨S16x100, .i32⟩
  | 27 => ⟨S_, .i32⟩
  | 28 => ⟨S16x100, .i32⟩
  | 29 => ⟨S16x100, .i32⟩
  | 30 => ⟨S16x100, .f32⟩
  | 31 => ⟨S16x100, .f32⟩
  | 32 => ⟨S16x100, .i32⟩
  | 33 => ⟨S_, .i32⟩
  | 34 => ⟨S_, .i32⟩
  | 35 => ⟨S_, .i32⟩
  | 36 => ⟨S16x100, .i32⟩
  | 37 => ⟨S16x100, .i32⟩
  | 38 => ⟨S_, .i32⟩
  | 39 => ⟨S16x100, .i32⟩
  | 40 => ⟨S16x100, .i32⟩
  | 41 => ⟨S16x100, .f32⟩
  | 42 => ⟨S16x100, .f32⟩
  | 43 => ⟨S16x100, .i32⟩
  | 44 => ⟨S_, .i32⟩
  | 45 => ⟨S16x100, .i32⟩
  | 46 => ⟨S16x100, .i32⟩
  | 47 => ⟨S_, .i32⟩
  | 48 => ⟨S16x100, .i32⟩
  | 49 => ⟨S16x100, .i32⟩
  | 50 => ⟨S16x100, .i32⟩
  | 51 => ⟨S16x100, .f32⟩
  | 52 => ⟨S16x100, .f32⟩
  | 53 => ⟨S16x100, .i32⟩
  | 54 => ⟨S_, .i32⟩
  | 55 => ⟨S16x100, .i32⟩
  | 56 => ⟨S16x100, .i32⟩
  | 57 => ⟨S_, .i32⟩
  | 58 => ⟨S16x100, .i32⟩
  | 59 => ⟨S16x100, .i32⟩
  | 60 => ⟨S16x100, .i32⟩
  | 61 => ⟨S_, .f32⟩
  | 62 => ⟨S_, .f32⟩
  | 63 => ⟨S16x256x100x152, .f32⟩
  | 64 => ⟨S_, .f32⟩
  | 65 => ⟨S_, .f32⟩
  | 66 => ⟨S16x256x100x152, .f32⟩
  | 67 => ⟨S_, .i32⟩
  | 68 => ⟨S_, .f32⟩
  | 69 => ⟨S16x256x101x153, .f32⟩
  | 70 => ⟨S16x100, .i32⟩
  | 71 => ⟨S16x100, .i32⟩
  | 72 => ⟨S_, .i32⟩
  | 73 => ⟨S16x100, .i32⟩
  | 74 => ⟨S16x100, .i1⟩
  | 75 => ⟨S_, .i32⟩
  | 76 => ⟨S16x100, .i32⟩
  | 77 => ⟨S16x100, .i32⟩
  | 78 => ⟨S16x100, .i32⟩
  | 79 => ⟨S_, .i32⟩
  | 80 => ⟨S16x100, .i32⟩
  | 81 => ⟨S16x100, .i1⟩
  | 82 => ⟨S_, .i32⟩
  | 83 => ⟨S16x100, .i32⟩
  | 84 => ⟨S16x100, .i32⟩
  | 85 => ⟨S16x100, .i32⟩
  | 86 => ⟨S16x100x1, .i32⟩
  | 87 => ⟨S16x100x1, .i32⟩
  | 88 => ⟨S16x100x2, .i32⟩
  | 89 => ⟨S16x256x100, .f32⟩
  | 90 => ⟨S_, .i32⟩
  | 91 => ⟨S16x100, .i32⟩
  | 92 => ⟨S16x100, .i1⟩
  | 93 => ⟨S_, .i32⟩
  | 94 => ⟨S16x100, .i32⟩
  | 95 => ⟨S16x100, .i32⟩
  | 96 => ⟨S16x100, .i32⟩
  | 97 => ⟨S_, .i32⟩
  | 98 => ⟨S16x100, .i32⟩
  | 99 => ⟨S16x100, .i1⟩
  | 100 => ⟨S_, .i32⟩
  | 101 => ⟨S16x100, .i32⟩
  | 102 => ⟨S16x100, .i32⟩
  | 103 => ⟨S16x100, .i32⟩
  | 104 => ⟨S16x100x1, .i32⟩
  | 105 => ⟨S16x100x1, .i32⟩
  | 106 => ⟨S16x100x2, .i32⟩
  | 107 => ⟨S16x256x100, .f32⟩
  | 108 => ⟨S16x256x100, .f32⟩
  | 109 => ⟨S_, .i32⟩
  | 110 => ⟨S16x100, .i32⟩
  | 111 => ⟨S16x100, .i1⟩
  | 112 => ⟨S_, .i32⟩
  | 113 => ⟨S16x100, .i32⟩
  | 114 => ⟨S16x100, .i32⟩
  | 115 => ⟨S16x100, .i32⟩
  | 116 => ⟨S_, .i32⟩
  | 117 => ⟨S16x100, .i32⟩
  | 118 => ⟨S16x100, .i1⟩
  | 119 => ⟨S_, .i32⟩
  | 120 => ⟨S16x100, .i32⟩
  | 121 => ⟨S16x100, .i32⟩
  | 122 => ⟨S16x100, .i32⟩
  | 123 => ⟨S16x100x1, .i32⟩
  | 124 => ⟨S16x100x1, .i32⟩
  | 125 => ⟨S16x100x2, .i32⟩
  | 126 => ⟨S16x256x100, .f32⟩
  | 127 => ⟨S16x256x100, .f32⟩
  | _ => ⟨S16x256x100x152, .f32⟩

abbrev hbmTy0_1 (i : Nat) : BufTy := match i % 128 with
  | 0 => ⟨S_, .i32⟩
  | 1 => ⟨S16x100, .i32⟩
  | 2 => ⟨S16x100, .i1⟩
  | 3 => ⟨S_, .i32⟩
  | 4 => ⟨S16x100, .i32⟩
  | 5 => ⟨S16x100, .i32⟩
  | 6 => ⟨S16x100, .i32⟩
  | 7 => ⟨S_, .i32⟩
  | 8 => ⟨S16x100, .i32⟩
  | 9 => ⟨S16x100, .i1⟩
  | 10 => ⟨S_, .i32⟩
  | 11 => ⟨S16x100, .i32⟩
  | 12 => ⟨S16x100, .i32⟩
  | 13 => ⟨S16x100, .i32⟩
  | 14 => ⟨S16x100x1, .i32⟩
  | 15 => ⟨S16x100x1, .i32⟩
  | 16 => ⟨S16x100x2, .i32⟩
  | 17 => ⟨S16x256x100, .f32⟩
  | 18 => ⟨S16x256x100, .f32⟩
  | 19 => ⟨S16x100, .i32⟩
  | 20 => ⟨S16x100, .f32⟩
  | 21 => ⟨S16x100x256, .f32⟩
  | 22 => ⟨S16x100x1, .f32⟩
  | 23 => ⟨S16x100x256, .f32⟩
  | 24 => ⟨S16x100x256, .f32⟩
  | 25 => ⟨S16x100x1, .i32⟩
  | 26 => ⟨S_, .i32⟩
  | 27 => ⟨S16x100x1, .i32⟩
  | 28 => ⟨S16x100x1, .i1⟩
  | 29 => ⟨S_, .f32⟩
  | 30 => ⟨S16x100x256, .i1⟩
  | 31 => ⟨S16x100x256, .f32⟩
  | 32 => ⟨S16x100x256, .f32⟩
  | _ => ⟨S16x256x100x152, .f32⟩

abbrev hbmTy (i : Nat) : BufTy := match i / 128 with
  | 0 => hbmTy0_0 i
  | 1 => hbmTy0_1 i
  | _ => ⟨S16x256x100x152, .f32⟩

abbrev bufTy : (tb : Table) → Fin (tcTables nBuf tb) → BufTy
  | .hbm, ⟨i, _⟩ => hbmTy i
  | _, _ => ⟨S16x256x100x152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call2_call0_cst : Ref sig .tc := ⟨.hbm, 61, rfl⟩
abbrev main_call2_call0_v0 : Ref sig .tc := ⟨.hbm, 62, rfl⟩
abbrev main_v36 : Ref sig .tc := ⟨.hbm, 63, rfl⟩
abbrev main_call3_call0_cst : Ref sig .tc := ⟨.hbm, 64, rfl⟩
abbrev main_call3_call0_v0 : Ref sig .tc := ⟨.hbm, 65, rfl⟩
abbrev main_v37 : Ref sig .tc := ⟨.hbm, 66, rfl⟩
abbrev main_c_8 : Ref sig .tc := ⟨.hbm, 67, rfl⟩
abbrev main_call4_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_9 : Ref sig .tc := ⟨.hbm, 72, rfl⟩
abbrev main_v41 : Ref sig .tc := ⟨.hbm, 73, rfl⟩
abbrev main_v42 : Ref sig .tc := ⟨.hbm, 74, rfl⟩
abbrev main_c_10 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_11 : Ref sig .tc := ⟨.hbm, 79, rfl⟩
abbrev main_v46 : Ref sig .tc := ⟨.hbm, 80, rfl⟩
abbrev main_v47 : Ref sig .tc := ⟨.hbm, 81, rfl⟩
abbrev main_c_12 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_13 : Ref sig .tc := ⟨.hbm, 90, rfl⟩
abbrev main_v55 : Ref sig .tc := ⟨.hbm, 91, rfl⟩
abbrev main_v56 : Ref sig .tc := ⟨.hbm, 92, rfl⟩
abbrev main_c_14 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_15 : Ref sig .tc := ⟨.hbm, 97, rfl⟩
abbrev main_v60 : Ref sig .tc := ⟨.hbm, 98, rfl⟩
abbrev main_v61 : Ref sig .tc := ⟨.hbm, 99, rfl⟩
abbrev main_c_16 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_17 : Ref sig .tc := ⟨.hbm, 109, rfl⟩
abbrev main_v70 : Ref sig .tc := ⟨.hbm, 110, rfl⟩
abbrev main_v71 : Ref sig .tc := ⟨.hbm, 111, rfl⟩
abbrev main_c_18 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_c_19 : Ref sig .tc := ⟨.hbm, 116, rfl⟩
abbrev main_v75 : Ref sig .tc := ⟨.hbm, 117, rfl⟩
abbrev main_v76 : Ref sig .tc := ⟨.hbm, 118, rfl⟩
abbrev main_c_20 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_21 : Ref sig .tc := ⟨.hbm, 128, rfl⟩
abbrev main_v85 : Ref sig .tc := ⟨.hbm, 129, rfl⟩
abbrev main_v86 : Ref sig .tc := ⟨.hbm, 130, rfl⟩
abbrev main_c_22 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_23 : Ref sig .tc := ⟨.hbm, 135, rfl⟩
abbrev main_v90 : Ref sig .tc := ⟨.hbm, 136, rfl⟩
abbrev main_v91 : Ref sig .tc := ⟨.hbm, 137, rfl⟩
abbrev main_c_24 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_c_25 : Ref sig .tc := ⟨.hbm, 154, rfl⟩
abbrev main_v107 : Ref sig .tc := ⟨.hbm, 155, rfl⟩
abbrev main_v108 : Ref sig .tc := ⟨.hbm, 156, rfl⟩
abbrev main_cst_26 : Ref sig .tc := ⟨.hbm, 157, rfl⟩
abbrev main_call5_v0 : Ref sig .tc := ⟨.hbm, 158, rfl⟩
abbrev main_call5_v1 : Ref sig .tc := ⟨.hbm, 159, rfl⟩
abbrev main_v109 : Ref sig .tc := ⟨.hbm, 160, rfl⟩

abbrev nD : Nat := 1
abbrev τ : Topo := Topo.v7x

variable {F : FTy → Type} [FloatOps F]
-- ==== Proof.Coords.lean ====
/-
  THE WINDOW OF A BOX. Both programs turn a box's four real coordinates into a window of rows and columns of the
  feature map by the same integer arithmetic. This module names that arithmetic on one coordinate and proves the facts
  the two programs rest on: a window lies inside the map, holds at least one position, and none of its words wraps.
-/
module

public import Idealize.ShloMosaic.PureOps
public import Idealize.ShloMosaic.PureOps.Ideal
public import Idealize.ShloMosaic.Lib.Pointwise

@[expose] public section

noncomputable section

namespace Cert.Roi

open Idealize.ShloMosaic

/-- The boxes of a batch: `(image, box, coordinate)`, the coordinates being left, top, width, height. -/
abbrev Boxes : Type := (⟨3, ![16, 100, 4]⟩ : Shape).Idx → EReal

/-- One integer. -/
abbrev Word : Type := (⟨0, ![]⟩ : Shape).Idx → BitVec 32

/-- A real coordinate of the picture as a position of the map: scaled by the map's size (the pattern `size` of a
float) over the picture's, and cut to an integer. -/
def position (size : BitVec 32) (v : EReal) (orig : BitVec 32) : BitVec 32 :=
  FloatOps.fptosi (F := Ideal) (φ := .f32) 32 (v * Ideal.div (Ideal.ofBits .f32 size) (FloatOps.sitofp (F := Ideal) .f32 orig))

/-- The first position of a window along an axis whose last position is `top`: the position clamped into the axis. -/
def start (top p : BitVec 32) : BitVec 32 := IntOp.minsi top (IntOp.maxsi (0#32) p)

/-- The number of positions of a window along an axis of `n` positions that starts at `s`: at least one, and no more
than there are from `s` on. -/
def extent (n s p : BitVec 32) : BitVec 32 := IntOp.minsi (IntOp.maxsi p (1#32)) (IntOp.subi n s)

/-- The first column of box `n` of image `b`. -/
def left (kp : Boxes) (ow : Word) (b : Fin 16) (n : Fin 100) : BitVec 32 :=
  start (151#32) (position (1125646336#32) (kp (ix3 b n 0)) (ow ix0))

/-- The first row of box `n` of image `b`. -/
def top (kp : Boxes) (oh : Word) (b : Fin 16) (n : Fin 100) : BitVec 32 :=
  start (99#32) (position (1120403456#32) (kp (ix3 b n 1)) (oh ix0))

/-- The number of columns of box `n` of image `b`. -/
def width (kp : Boxes) (ow : Word) (b : Fin 16) (n : Fin 100) : BitVec 32 :=
  extent (152#32) (left kp ow b n) (position (1125646336#32) (kp (ix3 b n 2)) (ow ix0))

/-- The number of rows of box `n` of image `b`. -/
def height (kp : Boxes) (oh : Word) (b : Fin 16) (n : Fin 100) : BitVec 32 :=
  extent (100#32) (top kp oh b n) (position (1120403456#32) (kp (ix3 b n 3)) (oh ix0))

/-- A clamped position is at most the axis' last. -/
theorem start_le (t p : BitVec 32) (ht : t.toNat < 2 ^ 31) : (start t p).toNat ≤ t.toNat := by
  have ht' : t.toInt = t.toNat := by rw [BitVec.toInt_eq_toNat_cond]; omega
  have h0 : (0#32).toInt = 0 := rfl
  have h0' : (0#32).toNat = 0 := rfl
  unfold start IntOp.minsi IntOp.maxsi
  simp only [BitVec.slt, decide_eq_true_eq]
  rw [ht', h0]
  have hp := BitVec.toInt_eq_toNat_cond p
  have := p.isLt
  split_ifs at * <;> omega

/-- A window holds at least one position and ends inside the axis. -/
theorem extent_bounds (n s p : BitVec 32) (hn : n.toNat < 2 ^ 31) (hs : s.toNat < n.toNat) :
    1 ≤ (extent n s p).toNat ∧ (extent n s p).toNat + s.toNat ≤ n.toNat := by
  have h1 : (1#32).toInt = 1 := rfl
  have h1' : (1#32).toNat = 1 := rfl
  have hsub : (IntOp.subi n s).toNat = n.toNat - s.toNat := by
    show (n - s).toNat = _
    rw [BitVec.toNat_sub]
    have := s.isLt
    omega
  have hsubI : (IntOp.subi n s).toInt = (n.toNat : ℤ) - s.toNat := by
    rw [BitVec.toInt_eq_toNat_cond, hsub]
    omega
  have hp := BitVec.toInt_eq_toNat_cond p
  have := p.isLt
  unfold extent IntOp.minsi IntOp.maxsi
  simp only [BitVec.slt, decide_eq_true_eq]
  rw [hsubI, h1]
  split_ifs at * <;> omega

theorem left_le (kp : Boxes) (ow : Word) (b : Fin 16) (n : Fin 100) : (left kp ow b n).toNat ≤ 151 :=
  start_le _ _ (by decide)

theorem top_le (kp : Boxes) (oh : Word) (b : Fin 16) (n : Fin 100) : (top kp oh b n).toNat ≤ 99 :=
  start_le _ _ (by decide)

/-- A box has at least one column, and its last column is on the map. -/
theorem width_bounds (kp : Boxes) (ow : Word) (b : Fin 16) (n : Fin 100) :
    1 ≤ (width kp ow b n).toNat ∧ (width kp ow b n).toNat + (left kp ow b n).toNat ≤ 152 :=
  extent_bounds _ _ _ (by decide) (by have := left_le kp ow b n; show _ < 152; omega)

/-- A box has at least one row, and its last row is on the map. -/
theorem height_bounds (kp : Boxes) (oh : Word) (b : Fin 16) (n : Fin 100) :
    1 ≤ (height kp oh b n).toNat ∧ (height kp oh b n).toNat + (top kp oh b n).toNat ≤ 100 :=
  extent_bounds _ _ _ (by decide) (by have := top_le kp oh b n; show _ < 100; omega)

/-- The column after a box's last, as a number: the sum of the words does not wrap. -/
theorem right_toNat (kp : Boxes) (ow : Word) (b : Fin 16) (n : Fin 100) :
    (IntOp.addi (left kp ow b n) (width kp ow b n)).toNat = (left kp ow b n).toNat + (width kp ow b n).toNat := by
  have := width_bounds kp ow b n
  show (left kp ow b n + width kp ow b n).toNat = _
  rw [BitVec.toNat_add]
  omega

/-- The row after a box's last, as a number: the sum of the words does not wrap. -/
theorem bottom_toNat (kp : Boxes) (oh : Word) (b : Fin 16) (n : Fin 100) :
    (IntOp.addi (top kp oh b n) (height kp oh b n)).toNat = (top kp oh b n).toNat + (height kp oh b n).toNat := by
  have := height_bounds kp oh b n
  show (top kp oh b n + height kp oh b n).toNat = _
  rw [BitVec.toNat_add]
  omega

/-- The number of positions of a box, as both programs form it: the product of its sides as an integer, then a real. -/
def area (kp : Boxes) (oh ow : Word) (b : Fin 16) (n : Fin 100) : EReal :=
  FloatOps.sitofp (F := Ideal) .f32 (IntOp.muli (height kp oh b n) (width kp ow b n))

/-- A box's area is not zero. -/
theorem area_ne_zero (kp : Boxes) (oh ow : Word) (b : Fin 16) (n : Fin 100) : area kp oh ow b n ≠ 0 := by
  have hw := width_bounds kp ow b n
  have hh := height_bounds kp oh b n
  have hprod : 1 ≤ (height kp oh b n).toNat * (width kp ow b n).toNat := Nat.mul_pos hh.1 hw.1
  have hle : (height kp oh b n).toNat * (width kp ow b n).toNat ≤ 100 * 152 :=
    Nat.mul_le_mul (by omega) (by omega)
  have hN : (IntOp.muli (height kp oh b n) (width kp ow b n)).toNat
      = (height kp oh b n).toNat * (width kp ow b n).toNat := by
    show (height kp oh b n * width kp ow b n).toNat = _
    rw [BitVec.toNat_mul]
    omega
  have hI : (IntOp.muli (height kp oh b n) (width kp ow b n)).toInt ≠ 0 := by
    rw [BitVec.toInt_eq_toNat_cond, hN]
    omega
  show (((IntOp.muli (height kp oh b n) (width kp ow b n)).toInt : ℝ) : EReal) ≠ 0
  exact_mod_cast hI

end Cert.Roi

end
-- ==== Proof.SumLaw.lean ====
/-
  THE EQUATION BEHIND THE KERNEL. A window's sum over a map of 100 rows and 152 columns, taken in two other ways: as two
  sums over the map laid out flat, its even and its odd positions apart (the kernel), and as four sums over the
  rectangles that start at the map's corner, added and taken away (the reference). The first holds in any commutative
  sum; the second takes sums away from one another and so needs every entry to be a real number.
-/
module

public import Mathlib.Data.EReal.Operations
public import Mathlib.Algebra.BigOperators.Fin
public import Mathlib.Algebra.BigOperators.Intervals

@[expose] public section

noncomputable section

namespace Cert.Roi

/-- A map of 100 rows and 152 columns. -/
abbrev Plane : Type := Fin 100 → Fin 152 → EReal

/-- The sum of a map's entries at the rows from `y0` to below `y1` and the columns from `x0` to below `x1`. -/
def windowSum (x : Plane) (y0 y1 x0 x1 : ℕ) : EReal :=
  ∑ h : Fin 100, ∑ w : Fin 152, if (y0 ≤ h.val ∧ h.val < y1) ∧ (x0 ≤ w.val ∧ w.val < x1) then x h w else 0

/-- The sum of a map's entries at the rows below `i` and the columns below `j`. -/
def cornerSum (x : Plane) (i j : ℕ) : EReal :=
  ∑ h : Fin 100, ∑ w : Fin 152, if h.val < i ∧ w.val < j then x h w else 0

/-- A sum of real numbers, read as extended reals, is the sum of the extended reals. -/
theorem coe_sum_real {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Of a map of real numbers, a window's sum is the sum to its far corner, less the sums to the two corners beside
it, plus the sum to its near corner. -/
theorem windowSum_eq_corners (x : Plane) (r : Fin 100 → Fin 152 → ℝ) (hx : ∀ h w, x h w = (r h w : EReal))
    {y0 y1 x0 x1 : ℕ} (hy : y0 ≤ y1) (hxx : x0 ≤ x1) :
    cornerSum x y1 x1 - cornerSum x y0 x1 - cornerSum x y1 x0 + cornerSum x y0 x0 = windowSum x y0 y1 x0 x1 := by
  have hc : ∀ i j, cornerSum x i j
      = ((∑ h : Fin 100, ∑ w : Fin 152, if h.val < i ∧ w.val < j then r h w else 0 : ℝ) : EReal) := by
    intro i j
    unfold cornerSum
    rw [coe_sum_real]
    refine Finset.sum_congr rfl fun h _ => ?_
    rw [coe_sum_real]
    refine Finset.sum_congr rfl fun w _ => ?_
    rw [hx]
    split_ifs <;> simp
  have hw : windowSum x y0 y1 x0 x1
      = ((∑ h : Fin 100, ∑ w : Fin 152,
          if (y0 ≤ h.val ∧ h.val < y1) ∧ (x0 ≤ w.val ∧ w.val < x1) then r h w else 0 : ℝ) : EReal) := by
    unfold windowSum
    rw [coe_sum_real]
    refine Finset.sum_congr rfl fun h _ => ?_
    rw [coe_sum_real]
    refine Finset.sum_congr rfl fun w _ => ?_
    rw [hx]
    split_ifs <;> simp
  rw [hw, hc, hc, hc, hc, ← EReal.coe_sub, ← EReal.coe_sub, ← EReal.coe_add]
  congr 1
  rw [← Finset.sum_sub_distrib, ← Finset.sum_sub_distrib, ← Finset.sum_add_distrib]
  refine Finset.sum_congr rfl fun h _ => ?_
  rw [← Finset.sum_sub_distrib, ← Finset.sum_sub_distrib, ← Finset.sum_add_distrib]
  refine Finset.sum_congr rfl fun w _ => ?_
  by_cases a : h.val < y0 <;> by_cases b : h.val < y1 <;> by_cases c : w.val < x0 <;> by_cases d : w.val < x1 <;>
    simp [a, b, c, d] <;> omega

/-- A sum over twice as many positions, its even and its odd positions apart. -/
theorem sum_even_odd {M : Type*} [AddCommMonoid M] (f : ℕ → M) (n : ℕ) :
    (∑ k ∈ Finset.range n, f (k * 2)) + ∑ k ∈ Finset.range n, f (k * 2 + 1) = ∑ p ∈ Finset.range (n * 2), f p := by
  induction n with
  | zero => simp
  | succ n ih =>
    rw [Finset.sum_range_succ, Finset.sum_range_succ, show (n + 1) * 2 = n * 2 + 1 + 1 by omega,
      Finset.sum_range_succ, Finset.sum_range_succ, ← ih]
    abel

/-- A sum over the positions of a map laid out flat is the sum over its rows of the sums over its columns. -/
theorem sum_rows {M : Type*} [AddCommMonoid M] (g : ℕ → ℕ → M) (n : ℕ) :
    ∑ p ∈ Finset.range (n * 152), g (p / 152) (p % 152) = ∑ h ∈ Finset.range n, ∑ w ∈ Finset.range 152, g h w := by
  induction n with
  | zero => simp
  | succ n ih =>
    rw [show (n + 1) * 152 = n * 152 + 152 by omega, Finset.sum_range_add, ih, Finset.sum_range_succ (fun h => ∑ w ∈ Finset.range 152, g h w)]
    congr 1
    refine Finset.sum_congr rfl fun w hw => ?_
    have := Finset.mem_range.mp hw
    rw [show (n * 152 + w) / 152 = n by omega, show (n * 152 + w) % 152 = w by omega]

/-- The even and the odd positions of the flat map, summed apart, together give the sum over rows and columns. -/
theorem sum_halves {M : Type*} [AddCommMonoid M] (g : ℕ → ℕ → M) :
    (∑ k : Fin 7600, g (k.val * 2 / 152) (k.val * 2 % 152)) + ∑ k : Fin 7600, g ((k.val * 2 + 1) / 152) ((k.val * 2 + 1) % 152)
      = ∑ h : Fin 100, ∑ w : Fin 152, g h.val w.val := by
  rw [Finset.sum_fin_eq_sum_range, Finset.sum_fin_eq_sum_range]
  have e1 : ∀ (F : ℕ → M) (n : ℕ), (∑ i ∈ Finset.range n, if h : i < n then F i else 0) = ∑ i ∈ Finset.range n, F i :=
    fun F n => Finset.sum_congr rfl fun i hi => by rw [dif_pos (Finset.mem_range.mp hi)]
  rw [e1 (fun k => g (k * 2 / 152) (k * 2 % 152)), e1 (fun k => g ((k * 2 + 1) / 152) ((k * 2 + 1) % 152)),
    sum_even_odd (fun p => g (p / 152) (p % 152)) 7600, show 7600 * 2 = 100 * 152 from rfl, sum_rows g 100,
    ← Fin.sum_univ_eq_sum_range (fun h => ∑ w ∈ Finset.range 152, g h w) 100]
  exact Finset.sum_congr rfl fun h _ => (Fin.sum_univ_eq_sum_range (fun w => g h.val w) 152).symm

end Cert.Roi

end
-- ==== Proof.Pooled.lean ====
/-
  WHAT BOTH PROGRAMS COMPUTE, at one box of one image and one channel, in terms of the argument arrays alone: the mean
  of the feature map over the box's window, or zero where the box is masked out.
-/
module

public import proofs.«01_k».proof.Proof.Coords
public import proofs.«01_k».proof.Proof.SumLaw

@[expose] public section

noncomputable section

namespace Cert.Roi

open Idealize.ShloMosaic

/-- The feature maps of a batch: `(image, channel, row, column)`. -/
abbrev Maps : Type := (⟨4, ![16, 256, 100, 152]⟩ : Shape).Idx → EReal

/-- The masks of a batch: `(image, box)`. -/
abbrev Masks : Type := (⟨2, ![16, 100]⟩ : Shape).Idx → BitVec 32

/-- The map of channel `ch` of image `b`. -/
def plane (fm : Maps) (b : Fin 16) (ch : Fin 256) : Plane := fun h w => fm (ix4 b ch h w)

/-- The sum of channel `ch` of image `b` over the window of box `n`. -/
def boxSum (fm : Maps) (kp : Boxes) (oh ow : Word) (b : Fin 16) (n : Fin 100) (ch : Fin 256) : EReal :=
  windowSum (plane fm b ch) (top kp oh b n).toNat ((top kp oh b n).toNat + (height kp oh b n).toNat)
    (left kp ow b n).toNat ((left kp ow b n).toNat + (width kp ow b n).toNat)

/-- The pooled feature: the window's sum over its area where the mask is positive, else zero. -/
def pooled (fm : Maps) (kp : Boxes) (mask : Masks) (oh ow : Word) (b : Fin 16) (n : Fin 100) (ch : Fin 256) : EReal :=
  Scalar.select (IntOp.cmpi .sgt (mask (ix2 b n)) (0#32)) (boxSum fm kp oh ow b n ch * (area kp oh ow b n)⁻¹) 0

/-- A quotient by a box's area is a product with its inverse. -/
theorem div_area (s : EReal) (kp : Boxes) (oh ow : Word) (b : Fin 16) (n : Fin 100) :
    Ideal.div s (area kp oh ow b n) = s * (area kp oh ow b n)⁻¹ := by
  unfold Ideal.div
  rw [if_neg (area_ne_zero kp oh ow b n)]

end Cert.Roi

end
-- ==== Proof.KernelHost.lean ====
/-
  WHAT THE KERNEL'S HOST PROGRAM HANDS TO THE LAUNCH, entry by entry, in terms of the argument arrays: the four words of
  each box's window, each box's scale, and the feature map with every channel's even and odd positions in two rows.
-/
module

public import proofs.«01_k».proof.Proof.Gen.KernelIdeal.Frame
public import proofs.«01_k».proof.Proof.Pooled
public import Idealize.ShloMosaic.Lib.StableHlo.ReadAt

@[expose] public section

set_option maxRecDepth 16384

noncomputable section

namespace Cert.KernelIdeal.Host

open Idealize.ShloMosaic Idealize.SL.Sem Cert.KernelIdeal Cert.KernelIdeal.Gen Cert.Roi

variable (m : (ℓ : Loc nD τ sig) → Buf (Elt Ideal) ℓ) (c : Dev nD)

/-- The feature maps as the launch memory holds them. -/
abbrev maps : Maps := m ((c.tc : Thread nD τ).loc main_arg0)
/-- The boxes as the launch memory holds them. -/
abbrev boxes : Boxes := m ((c.tc : Thread nD τ).loc main_arg1)
/-- The masks as the launch memory holds them. -/
abbrev masks : Masks := m ((c.tc : Thread nD τ).loc main_arg2)
/-- The picture's height as the launch memory holds it. -/
abbrev origH : Word := m ((c.tc : Thread nD τ).loc main_arg3)
/-- The picture's width as the launch memory holds it. -/
abbrev origW : Word := m ((c.tc : Thread nD τ).loc main_arg4)

/-- Word 0 of a box's window: its first column. -/
theorem word0 (b : Fin 16) (n : Fin 100) :
    V m c main_v42 (ix3 b (0 : Fin 4) n) = left (boxes m c) (origW m c) b n := by
  unfold V V0
  after_reads_at
  after_reads_at
  rfl

/-- Word 1 of a box's window: the column after its last. -/
theorem word1 (b : Fin 16) (n : Fin 100) :
    V m c main_v42 (ix3 b (1 : Fin 4) n)
      = IntOp.addi (left (boxes m c) (origW m c) b n) (width (boxes m c) (origW m c) b n) := by
  unfold V V0
  after_reads_at
  after_reads_at
  rfl

/-- Word 2 of a box's window: its first row. -/
theorem word2 (b : Fin 16) (n : Fin 100) :
    V m c main_v42 (ix3 b (2 : Fin 4) n) = top (boxes m c) (origH m c) b n := by
  unfold V V0
  after_reads_at
  after_reads_at
  rfl

/-- Word 3 of a box's window: the row after its last. -/
theorem word3 (b : Fin 16) (n : Fin 100) :
    V m c main_v42 (ix3 b (3 : Fin 4) n)
      = IntOp.addi (top (boxes m c) (origH m c) b n) (height (boxes m c) (origH m c) b n) := by
  unfold V V0
  after_reads_at
  after_reads_at
  rfl

/-- A box's scale: the inverse of its area where its mask is positive, else zero. -/
theorem scale_at (b : Fin 16) (n : Fin 100) :
    V m c main_v50 (ix3 b (0 : Fin 1) n)
      = Scalar.select (IntOp.cmpi .sgt (masks m c (ix2 b n)) (0#32))
          (area (boxes m c) (origH m c) (origW m c) b n)⁻¹ (0 : EReal) := by
  unfold V V0
  after_reads_at
  show Scalar.select _ (Ideal.div 1 (area (boxes m c) (origH m c) (origW m c) b n)) (Ideal.ofBits .f32 0#32) = _
  rw [div_area, one_mul, Ideal.ofBits_zero_f32]

/-- Row `2 ch` of the rows of an image: channel `ch`'s even positions. -/
theorem even_row (b : Fin 16) (ch : Fin 256) (k : Fin 7600) :
    V m c main_v55 (ix3 b (⟨2 * ch.val, by omega⟩ : Fin 512) k)
      = plane (maps m c) b ch ⟨k.val * 2 / 152, by omega⟩ ⟨k.val * 2 % 152, by omega⟩ := by
  unfold V V0
  after_reads_at
  unfold plane
  refine congrArg (maps m c) ((ix4_inj _ _ _ _ _ _ _ _).mpr ⟨rfl, Fin.ext ?_, Fin.ext ?_, Fin.ext ?_⟩) <;> dsimp only <;> omega

/-- Row `2 ch + 1` of the rows of an image: channel `ch`'s odd positions. -/
theorem odd_row (b : Fin 16) (ch : Fin 256) (k : Fin 7600) :
    V m c main_v55 (ix3 b (⟨2 * ch.val + 1, by omega⟩ : Fin 512) k)
      = plane (maps m c) b ch ⟨(k.val * 2 + 1) / 152, by omega⟩ ⟨(k.val * 2 + 1) % 152, by omega⟩ := by
  unfold V V0
  after_reads_at
  unfold plane
  refine congrArg (maps m c) ((ix4_inj _ _ _ _ _ _ _ _).mpr ⟨rfl, Fin.ext ?_, Fin.ext ?_, Fin.ext ?_⟩) <;> dsimp only <;> omega

end Cert.KernelIdeal.Host

end
-- ==== Proof.KernelBlock.lean ====
/-
  WHAT ONE STEP OF THE KERNEL COMPUTES. A step holds one image: its map as rows of bf16 (channel `c`'s even positions in
  row `2 c`, its odd positions in row `2 c + 1`), the words of its boxes' windows and their scales. It builds for each
  box the 0/1 indicator of the window over the flat map, even and odd positions apart, and multiplies the rows with it.
  The theorem here: entry `(c, n)` of the step's result is the sum of channel `c` over the window of box `n`, times the
  box's scale.
-/
module

public import proofs.«01_k».proof.Proof.Gen.KernelIdeal.Skeleton
public import proofs.«01_k».proof.Proof.SumLaw
public import Idealize.ShloMosaic.Lib.Pointwise

@[expose] public section

set_option maxRecDepth 16384

noncomputable section

namespace Cert.KernelIdeal.Block

open Idealize.ShloMosaic Cert.KernelIdeal Cert.KernelIdeal.Gen Cert.Roi

/-- The kernel's test of a position `p` against a window's two words is the test of the numbers. -/
theorem inside_words (p : ℕ) (lo hi : BitVec 32) (hp : p < 2 ^ 31) (hlo : lo.toNat < 2 ^ 31) (hhi : hi.toNat < 2 ^ 31) :
    IntOp.andi (IntOp.cmpi .sge (BitVec.ofNat 32 p) lo) (IntOp.cmpi .slt (BitVec.ofNat 32 p) hi)
      = BitVec.ofBool (decide (lo.toNat ≤ p ∧ p < hi.toNat)) := by
  have hpn : (BitVec.ofNat 32 p).toNat = p := by rw [BitVec.toNat_ofNat]; omega
  have hpi : (BitVec.ofNat 32 p).toInt = (p : ℤ) := by rw [BitVec.toInt_eq_toNat_cond, hpn]; omega
  have hli : lo.toInt = (lo.toNat : ℤ) := by rw [BitVec.toInt_eq_toNat_cond]; omega
  have hhi' : hi.toInt = (hi.toNat : ℤ) := by rw [BitVec.toInt_eq_toNat_cond]; omega
  have e1 : lo.sle (BitVec.ofNat 32 p) = decide (lo.toNat ≤ p) := by
    unfold BitVec.sle
    rw [hpi, hli]
    exact decide_eq_decide.mpr Int.ofNat_le
  have e2 : (BitVec.ofNat 32 p).slt hi = decide (p < hi.toNat) := by
    unfold BitVec.slt
    rw [hpi, hhi']
    exact decide_eq_decide.mpr Int.ofNat_lt
  show BitVec.ofBool (lo.sle (BitVec.ofNat 32 p)) &&& BitVec.ofBool ((BitVec.ofNat 32 p).slt hi) = _
  rw [e1, e2]
  by_cases a : lo.toNat ≤ p <;> by_cases b : p < hi.toNat <;> simp [a, b]

/-- A choice by a one-bit word made of a proposition is the choice by the proposition. -/
theorem select_prop {α : Type} (P : Prop) [Decidable P] (a b : α) :
    Scalar.select (BitVec.ofBool (decide P)) a b = if P then a else b := by
  by_cases h : P <;> simp [Scalar.select, h]

/-- A choice inside a choice, both falling back to one value, is the choice by both conditions. -/
theorem nested_choice {α : Type} (P Q R : Prop) [Decidable P] [Decidable Q] [Decidable R] (h : R ↔ Q ∧ P) (a c : α) :
    (if P then (if Q then a else c) else c) = if R then a else c := by
  by_cases p : P <;> by_cases q : Q <;> simp [h, p, q]

/-- The words of a step's windows, read as numbers: they are small enough to be read without a sign. -/
def Small (v0 : Vec Ideal S1x4x100 .i32) : Prop := ∀ (k : Fin 4) (n : Fin 100), (v0 (ix3 0 k n)).toNat < 2 ^ 31

/-- Row `h`, column `w` lies in the window of box `n`. -/
def Inside (v0 : Vec Ideal S1x4x100 .i32) (n : Fin 100) (h w : ℕ) : Prop :=
  ((v0 (ix3 0 2 n)).toNat ≤ h ∧ h < (v0 (ix3 0 3 n)).toNat) ∧ ((v0 (ix3 0 0 n)).toNat ≤ w ∧ w < (v0 (ix3 0 1 n)).toNat)

instance (v0 : Vec Ideal S1x4x100 .i32) (n : Fin 100) (h w : ℕ) : Decidable (Inside v0 n h w) := by
  unfold Inside; infer_instance

/-- The indicator at an even position: 1 where the position's row and column lie in the window, else 0. -/
theorem even_at (v0 : Vec Ideal S1x4x100 .i32) (hs : Small v0) (k : Fin 7600) (n : Fin 100) :
    k0_pay2 v0 (ix3 k 0 n) = if Inside v0 n (k.val * 2 / 152) (k.val * 2 % 152) then (1 : EReal) else 0 := by
  have hk := k.isLt
  pointwise [k0_pay2]
  rw [inside_words _ _ _ (by omega) (hs 0 n) (hs 1 n), inside_words _ _ _ (by omega) (hs 2 n) (hs 3 n), select_prop,
    select_prop, show k.val / 76 = k.val * 2 / 152 by omega, show k.val % 76 * 2 = k.val * 2 % 152 by omega]
  exact nested_choice _ _ _ Iff.rfl _ _

/-- The indicator at an odd position: 1 where the position's row and column lie in the window, else 0. -/
theorem odd_at (v0 : Vec Ideal S1x4x100 .i32) (hs : Small v0) (k : Fin 7600) (n : Fin 100) :
    k0_pay2 v0 (ix3 k 1 n) = if Inside v0 n ((k.val * 2 + 1) / 152) ((k.val * 2 + 1) % 152) then (1 : EReal) else 0 := by
  have hk := k.isLt
  pointwise [k0_pay2]
  rw [inside_words _ _ _ (by omega) (hs 0 n) (hs 1 n), inside_words _ _ _ (by omega) (hs 2 n) (hs 3 n), select_prop,
    select_prop, show k.val / 76 = (k.val * 2 + 1) / 152 by omega,
    show k.val % 76 * 2 + 1 = (k.val * 2 + 1) % 152 by omega]
  exact nested_choice _ _ _ Iff.rfl _ _

/-- An entry of a map where it lies in a window, else 0; 0 off the map. -/
def masked (x : Plane) (v0 : Vec Ideal S1x4x100 .i32) (n : Fin 100) (h w : ℕ) : EReal :=
  if hw : h < 100 ∧ w < 152 then (if Inside v0 n h w then x ⟨h, hw.1⟩ ⟨w, hw.2⟩ else 0) else 0

/-- One product of the kernel's sums: an entry times the indicator is the entry where it lies in the window. -/
theorem term_eq (x : Plane) (v0 : Vec Ideal S1x4x100 .i32) (n : Fin 100) (p : ℕ) (hp : p < 15200) :
    x ⟨p / 152, by omega⟩ ⟨p % 152, by omega⟩ * (if Inside v0 n (p / 152) (p % 152) then (1 : EReal) else 0)
      = masked x v0 n (p / 152) (p % 152) := by
  unfold masked
  rw [dif_pos ⟨by omega, by omega⟩]
  split_ifs
  · rw [mul_one]
  · rw [mul_zero]

/-- THE STEP'S RESULT at channel `ch` and box `n`: the channel's sum over the box's window, times the box's scale. -/
theorem block_at (v0 : Vec Ideal S1x4x100 .i32) (v1 : Vec Ideal S1x512x7600 .bf16) (v2 : Vec Ideal S1x1x100 .f32)
    (hs : Small v0) (x : Plane) (ch : Fin 256) (n : Fin 100)
    (he : ∀ k : Fin 7600, v1 (ix3 0 ⟨2 * ch.val, by omega⟩ k) = x ⟨k.val * 2 / 152, by omega⟩ ⟨k.val * 2 % 152, by omega⟩)
    (ho : ∀ k : Fin 7600, v1 (ix3 0 ⟨2 * ch.val + 1, by omega⟩ k)
      = x ⟨(k.val * 2 + 1) / 152, by omega⟩ ⟨(k.val * 2 + 1) % 152, by omega⟩) :
    k0_pay1 (k0_pay3 v0) (k0_pay4 v0) (k0_pay6 v1) (k0_pay7 v1) v2 (ix3 0 ch n)
      = windowSum x (v0 (ix3 0 2 n)).toNat (v0 (ix3 0 3 n)).toNat (v0 (ix3 0 0 n)).toNat (v0 (ix3 0 1 n)).toNat
        * v2 (ix3 0 0 n) := by
  pointwise [k0_pay1, k0_pay3, k0_pay4, k0_pay5, k0_pay6, k0_pay7]
  congr 1
  refine Eq.trans ?_ ((sum_halves (masked x v0 n)).trans ?_)
  · congr 1
    · refine Finset.sum_congr rfl fun k _ => ?_
      rw [even_at v0 hs, he]
      exact term_eq x v0 n (k.val * 2) (by omega)
    · refine Finset.sum_congr rfl fun k _ => ?_
      rw [odd_at v0 hs, ho]
      exact term_eq x v0 n (k.val * 2 + 1) (by omega)
  · unfold windowSum
    refine Finset.sum_congr rfl fun h _ => Finset.sum_congr rfl fun w _ => ?_
    unfold masked
    rw [dif_pos ⟨h.isLt, w.isLt⟩]
    rfl

end Cert.KernelIdeal.Block

end
-- ==== Proof.KernelValue.lean ====
/-
  WHAT THE KERNEL RETURNS. A launch of 16 steps, one image each: a step's blocks are the image's slices of the arrays
  the host hands over, and its result is the image's slice of the output array; the host then exchanges that array's
  last two axes. So entry `(b, n, ch)` of the result is the pooled feature of the argument arrays.
-/
module

public import proofs.«01_k».proof.Proof.KernelHost
public import proofs.«01_k».proof.Proof.KernelBlock
public import Idealize.ShloMosaic.Lib.Pipeline.ValueKit
public import Idealize.ShloMosaic.Lib.Claim

@[expose] public section

set_option maxRecDepth 16384

noncomputable section

namespace Cert.KernelIdeal.Result

open Idealize.ShloMosaic Idealize.SL.Sem Cert.KernelIdeal Cert.KernelIdeal.Gen Cert.KernelIdeal.Host
  Cert.KernelIdeal.Block Cert.Roi

variable (m : (ℓ : Loc nD τ sig) → Buf (Elt Ideal) ℓ) (c : Dev nD)

/-- The image a step works on: the step's number. -/
def image (t : Fin cfg0.N) : Fin 16 := ⟨t.val, t.isLt⟩

/-- The blocks of a step: at the step's number along the images, whole along the other axes. -/
theorem index_eq (t : Fin cfg0.N) :
    win0_0.index t = ![t.val, 0, 0] ∧ win0_1.index t = ![t.val, 0, 0] ∧ win0_2.index t = ![t.val, 0, 0]
      ∧ win0_3.index t = ![t.val, 0, 0] := by
  revert t
  decide +kernel

/-- A step's words are its image's. -/
theorem words_blk (t : Fin cfg0.N) (k : Fin 4) (n : Fin 100) :
    iblk m c 1 t (ix3 0 k n) = V m c main_v42 (ix3 (image t) k n) := by
  unfold image
  blk_ext [iblk, index_eq t]

/-- A step's scales are its image's. -/
theorem scale_blk (t : Fin cfg0.N) (n : Fin 100) :
    iblk m c 2 t (ix3 0 0 n) = V m c main_v50 (ix3 (image t) 0 n) := by
  unfold image
  blk_ext [iblk, index_eq t]

/-- A step's rows are its image's. -/
theorem rows_blk (t : Fin cfg0.N) (r : Fin 512) (k : Fin 7600) :
    iblk m c 0 t (ix3 0 r k) = V m c main_v55 (ix3 (image t) r k) := by
  unfold image
  blk_ext [iblk, index_eq t]

/-- The words of a step are all small: they are rows and columns of the map, or one past them. -/
theorem small (t : Fin cfg0.N) : Small (iblk m c 1 t) := by
  intro k n
  rw [words_blk]
  have h0 := left_le (boxes m c) (origW m c) (image t) n
  have h1 := width_bounds (boxes m c) (origW m c) (image t) n
  have h2 := top_le (boxes m c) (origH m c) (image t) n
  have h3 := height_bounds (boxes m c) (origH m c) (image t) n
  match k with
  | 0 => rw [word0]; omega
  | 1 => rw [word1, right_toNat]; omega
  | 2 => rw [word2]; omega
  | 3 => rw [word3, bottom_toNat]; omega

/-- Entry `(ch, n)` of a step's result is the pooled feature of the step's image. -/
theorem step_at (t : Fin cfg0.N) (ch : Fin 256) (n : Fin 100) :
    k0_pay1 (k0_pay3 (iblk m c 1 t)) (k0_pay4 (iblk m c 1 t)) (k0_pay6 (iblk m c 0 t)) (k0_pay7 (iblk m c 0 t))
      (iblk m c 2 t) (ix3 0 ch n)
      = pooled (maps m c) (boxes m c) (masks m c) (origH m c) (origW m c) (image t) n ch := by
  rw [block_at _ _ _ (small m c t) (plane (maps m c) (image t) ch) ch n
    (fun k => (rows_blk m c t _ k).trans (even_row m c (image t) ch k))
    (fun k => (rows_blk m c t _ k).trans (odd_row m c (image t) ch k))]
  rw [words_blk, words_blk, words_blk, words_blk, word0, word1, word2, word3, right_toNat, bottom_toNat, scale_blk,
    scale_at]
  unfold pooled boxSum
  unfold Scalar.select
  split_ifs
  · rfl
  · rw [mul_zero]

/-- The output array after the launch: the pooled feature of each image, channel and box. -/
def out (i : S16x256x100.Idx) : EReal :=
  pooled (maps m c) (boxes m c) (masks m c) (origH m c) (origW m c) (i 0) (i 2) (i 1)

/-- After the launch the output array holds the pooled features. -/
theorem array_eq : (dats m 0 c).arrAt 3 (cfgs 0).N = out m c := by
  refine (dats m 0 c).arrAt_eq_of_covers 3 _ (by decide +kernel) fun t hf y => ?_
  blk_simp
  rw [after0_3]
  frame_out
  obtain ⟨a, ch, n, rfl⟩ : ∃ (a : Fin 1) (ch : Fin 256) (n : Fin 100), y = ix3 a ch n := ⟨y 0, y 1, y 2, eq_ix3 y⟩
  obtain rfl : a = 0 := Subsingleton.elim _ _
  have hemb : ((View.whole main_v56).slice (win0_3.rect t)).emb (ix3 0 ch n) = ix3 (image t) ch n := by
    unfold image
    blk_ext [index_eq t]
  rw [hemb]
  exact step_at m c t ch n

/-- The array the host returns: the output array with its last two axes exchanged. -/
theorem returned (b : Fin 16) (n : Fin 100) (ch : Fin 256) :
    Pipeline.afterTail₀ cfgs (dats m) 0 (V0 m) [hostOps1] c main_v57 (ix3 b n ch)
      = pooled (maps m c) (boxes m c) (masks m c) (origH m c) (origW m c) b n ch := by
  unfold Pipeline.afterTail₀
  simp only [hostOps1, List.flatten_cons, List.flatten_nil, List.append_nil]
  after_reads_at
  have hinj : Function.Injective (Pipeline.arrRef (cfgs 0).spec) := by decide +kernel
  have harr := Pipeline.withArrays_arr (cfgs 0).spec hinj c (V0 m c) (fun w => (dats m 0 c).arrAt w (cfgs 0).N) 3
  exact (congrFun (harr.trans (array_eq m c)) (ix3 b ch n)).trans rfl

end Cert.KernelIdeal.Result

end
-- ==== Proof.RunningSums.lean ====
/-
  THE REFERENCE'S RUNNING SUMS, entry by entry: the sum of a map's entries down to a row, that sum taken across to a
  column, and the two with a row and a column of zeros in front, which is the sum over a rectangle from the map's corner.
-/
module

public import proofs.«01_k».proof.Proof.Gen.ReferenceIdeal
public import proofs.«01_k».proof.Proof.Pooled
public import Idealize.ShloMosaic.Lib.ValueIdx
public import Idealize.ShloMosaic.Lib.KernelVsHost

@[expose] public section

set_option maxRecDepth 16384

noncomputable section

namespace Cert.ReferenceIdeal.Sums

open Idealize.ShloMosaic Cert.ReferenceIdeal Cert.Roi

/-- Adding a list's values one after another to `v` gives `v` plus their sum. -/
theorem foldl_add {ι : Type} (f : ι → EReal) (l : List ι) (v : EReal) :
    l.foldl (fun r n => r + f n) v = v + (l.map f).sum := by
  induction l generalizing v with
  | nil => simp
  | cons a l ih => rw [List.foldl_cons, ih, List.map_cons, List.sum_cons, add_assoc]

/-- The host's sum over a window, from zero: the sum over the window's positions of the entry there, or zero where the
position lies outside the array. -/
theorem windowed {s : Shape} (window strides lo hi : Fin s.rank → ℕ) (h : s.ReduceWindows window strides lo hi s)
    (x : s.Idx → EReal) (j : s.Idx) :
    Ideal.hostReduceWindowAdd window strides lo hi h x 0 j
      = ∑ p : (⟨s.rank, window⟩ : Shape).Idx,
          if hin : ∀ a, lo a ≤ (j a).val * strides a + (p a).val ∧ (j a).val * strides a + (p a).val - lo a < s.size a
          then x (fun a => ⟨(j a).val * strides a + (p a).val - lo a, (hin a).2⟩) else 0 := by
  unfold Ideal.hostReduceWindowAdd Host.reduceWindow
  refine (foldl_add _ _ _).trans ?_
  rw [zero_add, ← Fin.sum_univ_def]
  refine (Finset.sum_congr rfl fun n _ => ?_).trans (Equiv.sum_comp (Shape.rowMajor _).symm (fun p : (⟨s.rank, window⟩ : Shape).Idx =>
    if hin : ∀ a, lo a ≤ (j a).val * strides a + (p a).val ∧ (j a).val * strides a + (p a).val - lo a < s.size a
    then x (fun a => ⟨(j a).val * strides a + (p a).val - lo a, (hin a).2⟩) else 0))
  exact dite_congr rfl (fun _ => rfl) (fun _ => rfl)

/-- A sum over a window that ends at `i` and reaches back past the start of the range is the sum up to `i`. -/
theorem sum_back (N : ℕ) (f : ℕ → EReal) (i : ℕ) (hi : i ≤ N) :
    (∑ k : Fin (N + 1), if N ≤ i + k.val then f (i + k.val - N) else 0)
      = ∑ q : Fin (N + 1), if q.val < i + 1 then f q.val else 0 := by
  rw [Fin.sum_univ_eq_sum_range (fun k => if N ≤ i + k then f (i + k - N) else 0),
    Fin.sum_univ_eq_sum_range (fun q => if q < i + 1 then f q else 0), ← Finset.sum_filter, ← Finset.sum_filter]
  refine Finset.sum_nbij' (fun k => i + k - N) (fun q => q + N - i) ?_ ?_ ?_ ?_ ?_ <;>
    intro k hk <;> rw [Finset.mem_filter, Finset.mem_range] at hk <;>
    first
    | (rw [Finset.mem_filter, Finset.mem_range]; omega)
    | omega
    | rfl

/-- The positions of a window of one image, one channel, `n` rows and one column are its rows. -/
def rowsOfWindow (n : ℕ) : Fin n ≃ (⟨4, ![1, 1, n, 1]⟩ : Shape).Idx where
  toFun k := ix4 (0 : Fin 1) (0 : Fin 1) k (0 : Fin 1)
  invFun p := p 2
  left_inv _ := rfl
  right_inv p := by
    rw [eq_ix4 p]
    exact congrArg₂ (fun a b => ix4 a b (p 2) (0 : Fin 1)) (Subsingleton.elim _ _) (Subsingleton.elim _ _) |>.trans
      (congrArg (fun a => ix4 (p 0) (p 1) (p 2) a) (Subsingleton.elim _ _))

/-- The positions of a window of one image, one channel, one row and `n` columns are its columns. -/
def columnsOfWindow (n : ℕ) : Fin n ≃ (⟨4, ![1, 1, 1, n]⟩ : Shape).Idx where
  toFun k := ix4 (0 : Fin 1) (0 : Fin 1) (0 : Fin 1) k
  invFun p := p 3
  left_inv _ := rfl
  right_inv p := by
    rw [eq_ix4 p]
    exact congrArg₂ (fun a b => ix4 a b (0 : Fin 1) (p 3)) (Subsingleton.elim _ _) (Subsingleton.elim _ _) |>.trans
      (congrArg (fun a => ix4 (p 0) (p 1) a (p 3)) (Subsingleton.elim _ _))

/-- The running sum down the rows: entry `(b, ch, i, w)` is the sum of the entries of column `w` down to row `i`. -/
theorem rows_sum (h : S16x256x100x152.ReduceWindows (![1, 1, 100, 1] : Fin 4 → Nat) ![1, 1, 1, 1] ![0, 0, 99, 0]
      ![0, 0, 0, 0] S16x256x100x152) (x : Maps) (b : Fin 16) (ch : Fin 256) (i : Fin 100) (w : Fin 152) :
    Ideal.hostReduceWindowAdd ![1, 1, 100, 1] ![1, 1, 1, 1] ![0, 0, 99, 0] ![0, 0, 0, 0] h x 0 (ix4 b ch i w)
      = ∑ q : Fin 100, if q.val < i.val + 1 then x (ix4 b ch q w) else 0 := by
  have hi := i.isLt
  rw [windowed]
  refine (Equiv.sum_comp (rowsOfWindow 100) _).symm.trans ?_
  refine Eq.trans (Finset.sum_congr rfl fun k _ => ?_)
    ((sum_back 99 (fun q => if hq : q < 100 then x (ix4 b ch ⟨q, hq⟩ w) else 0) i.val (by omega)).trans
      (Finset.sum_congr rfl fun q _ => by rw [dif_pos q.isLt]))
  have hk := k.isLt
  by_cases hle : 99 ≤ i.val + k.val
  · rw [if_pos hle, dif_pos (show i.val + k.val - 99 < 100 by omega), dif_pos]
    · refine congrArg x (funext fun a => Fin.ext ?_)
      match a with
      | ⟨0, _⟩ => show b.val * 1 + 0 - 0 = b.val; omega
      | ⟨1, _⟩ => show ch.val * 1 + 0 - 0 = ch.val; omega
      | ⟨2, _⟩ => show i.val * 1 + k.val - 99 = i.val + k.val - 99; omega
      | ⟨3, _⟩ => show w.val * 1 + 0 - 0 = w.val; omega
    · intro a
      match a with
      | ⟨0, _⟩ => exact ⟨Nat.zero_le _, (show b.val * 1 + 0 - 0 < 16 by omega)⟩
      | ⟨1, _⟩ => exact ⟨Nat.zero_le _, (show ch.val * 1 + 0 - 0 < 256 by omega)⟩
      | ⟨2, _⟩ => exact ⟨(show 99 ≤ i.val * 1 + k.val by omega), (show i.val * 1 + k.val - 99 < 100 by omega)⟩
      | ⟨3, _⟩ => exact ⟨Nat.zero_le _, (show w.val * 1 + 0 - 0 < 152 by omega)⟩
  · rw [if_neg hle, dif_neg]
    intro hin
    have h2 : 99 ≤ i.val * 1 + k.val := (hin (2 : Fin 4)).1
    omega

/-- The running sum across the columns: entry `(b, ch, h, j)` is the sum of the entries of row `h` across to column
`j`. -/
theorem columns_sum (h : S16x256x100x152.ReduceWindows (![1, 1, 1, 152] : Fin 4 → Nat) ![1, 1, 1, 1] ![0, 0, 0, 151]
      ![0, 0, 0, 0] S16x256x100x152) (x : Maps) (b : Fin 16) (ch : Fin 256) (i : Fin 100) (w : Fin 152) :
    Ideal.hostReduceWindowAdd ![1, 1, 1, 152] ![1, 1, 1, 1] ![0, 0, 0, 151] ![0, 0, 0, 0] h x 0 (ix4 b ch i w)
      = ∑ q : Fin 152, if q.val < w.val + 1 then x (ix4 b ch i q) else 0 := by
  have hw := w.isLt
  rw [windowed]
  refine (Equiv.sum_comp (columnsOfWindow 152) _).symm.trans ?_
  refine Eq.trans (Finset.sum_congr rfl fun k _ => ?_)
    ((sum_back 151 (fun q => if hq : q < 152 then x (ix4 b ch i ⟨q, hq⟩) else 0) w.val (by omega)).trans
      (Finset.sum_congr rfl fun q _ => by rw [dif_pos q.isLt]))
  have hk := k.isLt
  by_cases hle : 151 ≤ w.val + k.val
  · rw [if_pos hle, dif_pos (show w.val + k.val - 151 < 152 by omega), dif_pos]
    · refine congrArg x (funext fun a => Fin.ext ?_)
      match a with
      | ⟨0, _⟩ => show b.val * 1 + 0 - 0 = b.val; omega
      | ⟨1, _⟩ => show ch.val * 1 + 0 - 0 = ch.val; omega
      | ⟨2, _⟩ => show i.val * 1 + 0 - 0 = i.val; omega
      | ⟨3, _⟩ => show w.val * 1 + k.val - 151 = w.val + k.val - 151; omega
    · intro a
      match a with
      | ⟨0, _⟩ => exact ⟨Nat.zero_le _, (show b.val * 1 + 0 - 0 < 16 by omega)⟩
      | ⟨1, _⟩ => exact ⟨Nat.zero_le _, (show ch.val * 1 + 0 - 0 < 256 by omega)⟩
      | ⟨2, _⟩ => exact ⟨Nat.zero_le _, (show i.val * 1 + 0 - 0 < 100 by omega)⟩
      | ⟨3, _⟩ => exact ⟨(show 151 ≤ w.val * 1 + k.val by omega), (show w.val * 1 + k.val - 151 < 152 by omega)⟩
  · rw [if_neg hle, dif_neg]
    intro hin
    have h3 : 151 ≤ w.val * 1 + k.val := (hin (3 : Fin 4)).1
    omega

/-- A sum over the columns of sums over the rows is the sum over the rectangle. -/
theorem corner_of_sums (x : Plane) (i j : ℕ) :
    (∑ w : Fin 152, if w.val < j then (∑ h : Fin 100, if h.val < i then x h w else 0) else 0) = cornerSum x i j := by
  unfold cornerSum
  rw [Finset.sum_comm]
  refine Finset.sum_congr rfl fun w _ => ?_
  by_cases hw : w.val < j
  · rw [if_pos hw]
    refine Finset.sum_congr rfl fun h _ => ?_
    by_cases hh : h.val < i
    · rw [if_pos hh, if_pos ⟨hh, hw⟩]
    · rw [if_neg hh, if_neg fun q => hh q.1]
  · rw [if_neg hw]
    exact (Finset.sum_eq_zero fun h _ => if_neg fun q => hw q.2).symm

/-- The map's running sums both ways: the reference's array before its row and column of zeros. -/
abbrev summed (x : Maps) (z : S_.Idx → EReal) : Maps :=
  Host.reduceWindowAdd (F := Ideal) (φ := .f32) ![1, 1, 1, 152] ![1, 1, 1, 1] ![0, 0, 0, 151] ![0, 0, 0, 0]
    (Host.reduceWindowAdd (F := Ideal) (φ := .f32) ![1, 1, 100, 1] ![1, 1, 1, 1] ![0, 0, 99, 0] ![0, 0, 0, 0] x z
      Facts₀.reduceWindows_S16x256x100x152_S16x256x100x152_w1s1p0_0_w1s1p0_0_w100s1p99_0_w1s1p0_0 Facts₀.h_S_) z
    Facts₀.reduceWindows_S16x256x100x152_S16x256x100x152_w1s1p0_0_w1s1p0_0_w1s1p0_0_w152s1p151_0 Facts₀.h_S_

/-- Entry `(b, ch, i, j)` of the running sums is the sum over the rows to `i` and the columns to `j`. -/
theorem summed_at (x : Maps) (z : S_.Idx → EReal) (hz : z ix0 = 0) (b : Fin 16) (ch : Fin 256) (i : Fin 100)
    (j : Fin 152) : summed x z (ix4 b ch i j) = cornerSum (plane x b ch) (i.val + 1) (j.val + 1) := by
  have h0 : z (Shape.Idx.first Facts₀.h_S_) = 0 := (congrArg z (funext fun a => a.elim0)).trans hz
  unfold summed Host.reduceWindowAdd
  rw [h0]
  refine (columns_sum _ _ b ch i j).trans ?_
  rw [← corner_of_sums]
  refine Finset.sum_congr rfl fun w _ => ?_
  split_ifs
  · exact rows_sum _ x b ch i w
  · rfl

/-- The running sums with a row and a column of zeros in front: entry `(b, ch, i, j)` is the sum over the rows below `i`
and the columns below `j`. -/
theorem padded_at (x : Maps) (z z' : S_.Idx → EReal) (hz : z ix0 = 0) (hz' : z' ix0 = 0) (b : Fin 16) (ch : Fin 256)
    (i : Fin 101) (j : Fin 153) :
    pad S16x256x101x153 ![0, 0, 1, 1] ![0, 0, 0, 0] ![0, 0, 0, 0] (summed x z) z'
        Facts₀.pads_S16x256x100x152_S16x256x101x153_000_000_100_100 Facts₀.h_S_ (ix4 b ch i j)
      = cornerSum (plane x b ch) i.val j.val := by
  have hi := i.isLt
  have hj := j.isLt
  have h0 : z' (Shape.Idx.first Facts₀.h_S_) = 0 := (congrArg z' (funext fun a => a.elim0)).trans hz'
  unfold pad
  by_cases hpos : 1 ≤ i.val ∧ 1 ≤ j.val
  · rw [dif_pos]
    · refine (congrArg (summed x z) (funext fun a => Fin.ext ?_)).trans
        ((summed_at x z hz b ch ⟨i.val - 1, by omega⟩ ⟨j.val - 1, by omega⟩).trans ?_)
      · match a with
        | ⟨0, _⟩ => show (b.val - 0) / (0 + 1) = b.val; omega
        | ⟨1, _⟩ => show (ch.val - 0) / (0 + 1) = ch.val; omega
        | ⟨2, _⟩ => show (i.val - 1) / (0 + 1) = i.val - 1; omega
        | ⟨3, _⟩ => show (j.val - 1) / (0 + 1) = j.val - 1; omega
      · show cornerSum (plane x b ch) (i.val - 1 + 1) (j.val - 1 + 1) = _
        rw [Nat.sub_add_cancel hpos.1, Nat.sub_add_cancel hpos.2]
    · intro a
      match a with
      | ⟨0, _⟩ => show 0 ≤ b.val ∧ (b.val - 0) % (0 + 1) = 0 ∧ (b.val - 0) / (0 + 1) < 16; omega
      | ⟨1, _⟩ => show 0 ≤ ch.val ∧ (ch.val - 0) % (0 + 1) = 0 ∧ (ch.val - 0) / (0 + 1) < 256; omega
      | ⟨2, _⟩ => show 1 ≤ i.val ∧ (i.val - 1) % (0 + 1) = 0 ∧ (i.val - 1) / (0 + 1) < 100; omega
      | ⟨3, _⟩ => show 1 ≤ j.val ∧ (j.val - 1) % (0 + 1) = 0 ∧ (j.val - 1) / (0 + 1) < 152; omega
  · rw [dif_neg]
    · rw [h0]
      unfold cornerSum
      refine (Finset.sum_eq_zero fun h _ => Finset.sum_eq_zero fun w _ => if_neg ?_).symm
      omega
    · intro hin
      have h2 : 1 ≤ i.val := (hin (2 : Fin 4)).1
      have h3 : 1 ≤ j.val := (hin (3 : Fin 4)).1
      exact hpos ⟨h2, h3⟩

end Cert.ReferenceIdeal.Sums

end
-- ==== Proof.Corners.lean ====
/-
  THE REFERENCE'S LOOK-UPS, entry by entry: from the running sums of an image and a channel it takes the entry at the
  row and the column that a box's two words name.
-/
module

public import proofs.«01_k».proof.Proof.Gen.ReferenceIdeal
public import Idealize.ShloMosaic.Lib.ValueIdx
public import Idealize.ShloMosaic.Lib.Pointwise

@[expose] public section

set_option maxRecDepth 16384

noncomputable section

namespace Cert.ReferenceIdeal.Corners

open Idealize.ShloMosaic Cert.ReferenceIdeal

/-- Where a box's two words are a row `y` up to 100 and a column `x` up to 152, the look-up for the box takes entry
`(y, x)` of its image and channel. -/
theorem lookup_at {α : Type} (s : S16x256x101x153.Idx → α) (idx : IVec S16x100x2 32) (b : Fin 16) (ch : Fin 256)
    (n : Fin 100) (y : Fin 101) (x : Fin 153) (hy : (idx (ix3 b n (0 : Fin 2))).toInt.toNat = y.val)
    (hx : (idx (ix3 b n (1 : Fin 2))).toInt.toNat = x.val) :
    Host.gather gather_S16x256x101x153_S16x100x2_S16x256x100_1_23_0_0_23_2_125611 s idx (ix3 b ch n)
      = s (ix4 b ch y x) := by
  have hy' := y.isLt
  have hx' := x.isLt
  unfold Host.gather
  refine congrArg s (funext fun a => Fin.ext ?_)
  show gather_S16x256x101x153_S16x100x2_S16x256x100_1_23_0_0_23_2_125611.start (ix3 b ch n) idx a
      + gather_S16x256x101x153_S16x100x2_S16x256x100_1_23_0_0_23_2_125611.batchCoord (ix3 b ch n) a
      + gather_S16x256x101x153_S16x100x2_S16x256x100_1_23_0_0_23_2_125611.offCoord (ix3 b ch n) a = _
  have hcases : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases hcases with rfl | rfl | rfl | rfl
  · rw [GatherDims.start_batching _ _ _ _ (by decide), GatherDims.offCoord_eq_zero _ _ _ (by decide)]
    show 0 + b.val + 0 = b.val
    omega
  · rw [GatherDims.batchCoord_eq_zero _ _ _ (by decide)]
    unfold GatherDims.start
    rw [dif_neg (by decide)]
    show 0 + 0 + ch.val = ch.val
    omega
  · rw [GatherDims.batchCoord_eq_zero _ _ _ (by decide), GatherDims.offCoord_eq_zero _ _ _ (by decide)]
    unfold GatherDims.start
    rw [dif_pos (by decide)]
    have hsi : gather_S16x256x101x153_S16x100x2_S16x256x100_1_23_0_0_23_2_125611.siIdx (ix3 b ch n)
        ⟨List.idxOf (2 : Fin 4) [2, 3], by decide⟩ = ix3 b n (0 : Fin 2) := by
      funext q
      refine Fin.ext ?_
      match q with
      | ⟨0, _⟩ => rfl
      | ⟨1, _⟩ => rfl
      | ⟨2, _⟩ => rfl
    refine Eq.trans (congrArg (fun q => min (idx q).toInt.toNat (101 - 1) + 0 + 0) hsi) ?_
    show min (idx (ix3 b n (0 : Fin 2))).toInt.toNat 100 + 0 + 0 = y.val
    omega
  · rw [GatherDims.batchCoord_eq_zero _ _ _ (by decide), GatherDims.offCoord_eq_zero _ _ _ (by decide)]
    unfold GatherDims.start
    rw [dif_pos (by decide)]
    have hsi : gather_S16x256x101x153_S16x100x2_S16x256x100_1_23_0_0_23_2_125611.siIdx (ix3 b ch n)
        ⟨List.idxOf (3 : Fin 4) [2, 3], by decide⟩ = ix3 b n (1 : Fin 2) := by
      funext q
      refine Fin.ext ?_
      match q with
      | ⟨0, _⟩ => rfl
      | ⟨1, _⟩ => rfl
      | ⟨2, _⟩ => rfl
    refine Eq.trans (congrArg (fun q => min (idx q).toInt.toNat (153 - 1) + 0 + 0) hsi) ?_
    show min (idx (ix3 b n (1 : Fin 2))).toInt.toNat 152 + 0 + 0 = x.val
    omega

end Cert.ReferenceIdeal.Corners

end
-- ==== Proof.RefValue.lean ====
/-
  WHAT THE REFERENCE COMPUTES, entry by entry: four entries of the running sums make a box's sum, and that sum over the
  box's area, where the mask is positive, is the pooled feature.
-/
module

public import proofs.«01_k».proof.Proof.Gen.ReferenceIdeal.Run
public import proofs.«01_k».proof.Proof.RunningSums
public import proofs.«01_k».proof.Proof.Corners

@[expose] public section

set_option maxRecDepth 16384

noncomputable section

namespace Cert.ReferenceIdeal.Result

open Idealize.ShloMosaic Idealize.SL.Sem Cert.ReferenceIdeal Cert.ReferenceIdeal.Value Cert.ReferenceIdeal.Sums
  Cert.ReferenceIdeal.Corners Cert.Roi

/-- A word that names a row or a column from the front is left as it is by the choice that counts negative ones from
the back. -/
theorem from_front (w k : BitVec 32) (hw : w.toNat ≤ 152) :
    Scalar.select (IntOp.cmpi .slt w 0#32) (IntOp.addi w k) w = w := by
  have h : w.slt 0#32 = false := by
    rw [BitVec.slt_zero_eq_msb, BitVec.msb_eq_decide]
    exact decide_eq_false (by omega)
  unfold Scalar.select IntOp.cmpi
  simp [h]

/-- A word of at most 152, after that choice and read signed, is itself. -/
theorem front_word (w k : BitVec 32) (y : ℕ) (hw : w.toNat = y) (hy : y ≤ 152) :
    (Scalar.select (IntOp.cmpi .slt w 0#32) (IntOp.addi w k) w).toInt.toNat = y := by
  rw [from_front w k (by omega), BitVec.toInt_eq_toNat_of_lt (by omega)]
  exact hw

variable (m : (ℓ : Loc nD τ sig) → Buf (Elt Ideal) ℓ) (c : Dev nD)

/-- The feature maps as the reference's launch memory holds them. -/
abbrev maps : Maps := m ((c.tc : Thread nD τ).loc main_arg0)
/-- The boxes as the reference's launch memory holds them. -/
abbrev boxes : Boxes := m ((c.tc : Thread nD τ).loc main_arg1)
/-- The masks as the reference's launch memory holds them. -/
abbrev masks : Masks := m ((c.tc : Thread nD τ).loc main_arg2)
/-- The picture's height as the reference's launch memory holds it. -/
abbrev origH : Word := m ((c.tc : Thread nD τ).loc main_arg3)
/-- The picture's width as the reference's launch memory holds it. -/
abbrev origW : Word := m ((c.tc : Thread nD τ).loc main_arg4)

/-- The reference's running sums start at zero. -/
theorem zero_start : broadcastInDim S_ ![] Facts₀.bcast_S_S_ (constant (F := Ideal) S_ .f32 0#32) ix0 = 0 := by
  pointwise

/-- The row and the column in front of them are zeros. -/
theorem zero_front : sitofp (F := Ideal) .f32 (constantI S_ 32 0#32) ix0 = 0 := by
  show (((0#32 : BitVec 32).toInt : ℝ) : EReal) = 0
  simp

/-- Of a batch of real numbers, the reference's result is the pooled feature. -/
theorem returned (hreal : ∀ i, ∃ r : ℝ, maps m c i = (r : EReal)) (b : Fin 16) (n : Fin 100) (ch : Fin 256) :
    res_out0 m c (ix3 b n ch) = pooled (maps m c) (boxes m c) (masks m c) (origH m c) (origW m c) b n ch := by
  unfold res_out0 res_main_v109
  pointwise

  have hl := left_le (boxes m c) (origW m c) b n
  have hw := width_bounds (boxes m c) (origW m c) b n
  have ht := top_le (boxes m c) (origH m c) b n
  have hh := height_bounds (boxes m c) (origH m c) b n
  have hr := right_toNat (boxes m c) (origW m c) b n
  have hb := bottom_toNat (boxes m c) (origH m c) b n
  rw [lookup_at _ _ b ch n
    ⟨(top (boxes m c) (origH m c) b n).toNat + (height (boxes m c) (origH m c) b n).toNat, by omega⟩
    ⟨(left (boxes m c) (origW m c) b n).toNat + (width (boxes m c) (origW m c) b n).toNat, by omega⟩
    (by pointwise; exact front_word _ 101#32 _ hb (by omega))
    (by pointwise; exact front_word _ 153#32 _ hr (by omega)),
    lookup_at _ _ b ch n ⟨(top (boxes m c) (origH m c) b n).toNat, by omega⟩
    ⟨(left (boxes m c) (origW m c) b n).toNat + (width (boxes m c) (origW m c) b n).toNat, by omega⟩
    (by pointwise; exact front_word (top (boxes m c) (origH m c) b n) 101#32 _ rfl (by omega))
    (by pointwise; exact front_word _ 153#32 _ hr (by omega)),
    lookup_at _ _ b ch n
    ⟨(top (boxes m c) (origH m c) b n).toNat + (height (boxes m c) (origH m c) b n).toNat, by omega⟩
    ⟨(left (boxes m c) (origW m c) b n).toNat, by omega⟩
    (by pointwise; exact front_word _ 101#32 _ hb (by omega))
    (by pointwise; exact front_word (left (boxes m c) (origW m c) b n) 153#32 _ rfl (by omega)),
    lookup_at _ _ b ch n ⟨(top (boxes m c) (origH m c) b n).toNat, by omega⟩
    ⟨(left (boxes m c) (origW m c) b n).toNat, by omega⟩
    (by pointwise; exact front_word (top (boxes m c) (origH m c) b n) 101#32 _ rfl (by omega))
    (by pointwise; exact front_word (left (boxes m c) (origW m c) b n) 153#32 _ rfl (by omega))]
  rw [padded_at (maps m c) _ _ zero_start zero_front, padded_at (maps m c) _ _ zero_start zero_front,
    padded_at (maps m c) _ _ zero_start zero_front, padded_at (maps m c) _ _ zero_start zero_front]
  choose r hr using hreal
  dsimp only
  rw [windowSum_eq_corners (plane (maps m c) b ch) (fun h w => r (ix4 b ch h w)) (fun h w => hr _) (Nat.le_add_right _ _)
    (Nat.le_add_right _ _)]
  refine Eq.trans (congrArg (fun q => Scalar.select (IntOp.cmpi .sgt (masks m c (ix2 b n)) (0#32)) q (0 : EReal))
    (div_area (boxSum (maps m c) (boxes m c) (origH m c) (origW m c) b n ch) (boxes m c) (origH m c) (origW m c) b n)) ?_
  rfl

end Cert.ReferenceIdeal.Result

end
-- ==== Proof.Finite.lean ====
/-
  WHAT THE PRECONDITION SAYS of the launch memory: every entry of the feature maps is a real number.
-/
module

public import proofs.«01_k».proof.Proof.Gen.Pre_finite
public import Idealize.ShloMosaic.Lib.Pointwise
public import Idealize.ShloMosaic.Lib.ValueIdx

@[expose] public section

noncomputable section

namespace Cert.Pre_finite.Entries

open Idealize.ShloMosaic Cert.Pre_finite

/-- An extended real whose size is below infinity is a real number. -/
theorem real_of_size (x : EReal) (h : max x (-x) < ⊤) : ∃ r : ℝ, x = (r : EReal) := by
  have ht : x ≠ ⊤ := fun e => by subst e; simp at h
  have hb : x ≠ ⊥ := fun e => by subst e; simp at h
  exact ⟨x.toReal, (EReal.coe_toReal ht hb).symm⟩

/-- Where the precondition holds of the arrays, every entry of the first is a real number. -/
theorem real_of_finite (fm : S16x256x100x152.Idx → EReal) (kp : S16x100x4.Idx → EReal) (mask : S16x100.Idx → BitVec 32)
    (oh ow : S_.Idx → BitVec 32) (h : fn (F := Ideal) fm kp mask oh ow = fun _ => 1#1) (i : S16x256x100x152.Idx) :
    ∃ r : ℝ, fm i = (r : EReal) := by
  have hi := congrFun h i
  idx_vars i
  pointwise [fn] at hi
  have hlt : FloatOps.absf (F := Ideal) (φ := .f32) (fm (ix4 i0 i1 i2 i3)) < Ideal.ofBits FTy.f32 2139095040#32 := by
    by_contra hn
    rw [decide_eq_false hn] at hi
    exact absurd hi (by decide)
  exact real_of_size _ (lt_of_lt_of_le hlt le_top)

end Cert.Pre_finite.Entries

end
-- ==== Proof.Equal.lean ====
/-
  THE EQUATION: from launch memories that hold the same arguments, with real numbers in the feature maps, the kernel and
  the reference return the same array, the pooled features of the arguments.
-/
module

public import proofs.«01_k».proof.Proof.KernelValue
public import proofs.«01_k».proof.Proof.RefValue
public import proofs.«01_k».proof.Proof.Finite

@[expose] public section

set_option maxRecDepth 16384

noncomputable section

namespace Cert.Roi

open Idealize.ShloMosaic Idealize.SL.Sem

/-- Where the precondition holds of the kernel's launch memory `m` and the reference's launch memory `m'` holds the same
arguments, the array the kernel returns is the array the reference returns. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite.fn (F := Ideal) (Cert.KernelIdeal.Host.maps m c) (Cert.KernelIdeal.Host.boxes m c)
      (Cert.KernelIdeal.Host.masks m c) (Cert.KernelIdeal.Host.origH m c) (Cert.KernelIdeal.Host.origW m c)
      = fun _ => 1#1)
    (hagree : Cert.ReferenceIdeal.Result.maps m' c = Cert.KernelIdeal.Host.maps m c
      ∧ Cert.ReferenceIdeal.Result.boxes m' c = Cert.KernelIdeal.Host.boxes m c
      ∧ Cert.ReferenceIdeal.Result.masks m' c = Cert.KernelIdeal.Host.masks m c
      ∧ Cert.ReferenceIdeal.Result.origH m' c = Cert.KernelIdeal.Host.origH m c
      ∧ Cert.ReferenceIdeal.Result.origW m' c = Cert.KernelIdeal.Host.origW m c) :
    Pipeline.afterTail₀ Cert.KernelIdeal.cfgs (Cert.KernelIdeal.Gen.dats m) 0 (Cert.KernelIdeal.Gen.V0 m)
        [Cert.KernelIdeal.Gen.hostOps1] c Cert.KernelIdeal.main_v57
      = Cert.ReferenceIdeal.Value.res_out0 m' c := by
  obtain ⟨h0, h1, h2, h3, h4⟩ := hagree
  have hreal : ∀ i, ∃ r : ℝ, Cert.ReferenceIdeal.Result.maps m' c i = (r : EReal) := fun i => by
    rw [h0]
    exact Cert.Pre_finite.Entries.real_of_finite _ _ _ _ _ hpre i
  refine funext fun (i : (⟨3, ![16, 100, 256]⟩ : Shape).Idx) => ?_
  idx_vars i
  refine (Cert.KernelIdeal.Result.returned m c i0 i1 i2).trans
    (Eq.trans ?_ (Cert.ReferenceIdeal.Result.returned m' c hreal i0 i1 i2).symm)
  rw [h0, h1, h2, h3, h4]

end Cert.Roi

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Equal
public import Idealize.ShloMosaic.Adequacy
public import Idealize.ShloMosaic.Lib.Quiescent
public import Idealize.ShloMosaic.Init
public import Idealize.ShloMosaic.Lib.Bf16Pair
public import Idealize.ShloMosaic.Lib.Pipeline.ValueKit

@[expose] public section

set_option maxRecDepth 16384

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => (θ_run _ _ _).mono (fun r h => ⟨fun c => (h c).2, sem_eq_zero_of_no_sems rfl r.2⟩)
    (Cert.ReferenceIdeal.Value.run m g),
  fun m g _ => (θ_run _ _ _).mono (fun r h => ⟨fun c => (h c).2, sem_eq_zero_of_no_sems rfl r.2⟩)
    (Cert.ReferenceIdeal.Value.run m g),
  IdealRules.bf16_pair.statement _ _,
  by
    pair_intro
    · run_from Cert.KernelIdeal.Gen.run_main m g
      · exact Cert.KernelIdeal.Gen.W_main_arg0 m (Cert.KernelIdeal.Gen.dats m) c
      · exact Cert.KernelIdeal.Gen.W_main_arg1 m (Cert.KernelIdeal.Gen.dats m) c
      · exact Cert.KernelIdeal.Gen.W_main_arg2 m (Cert.KernelIdeal.Gen.dats m) c
      · exact Cert.KernelIdeal.Gen.W_main_arg3 m (Cert.KernelIdeal.Gen.dats m) c
      · exact Cert.KernelIdeal.Gen.W_main_arg4 m (Cert.KernelIdeal.Gen.dats m) c
    · exact (θ_run _ _ _).mono
        (fun _ h c => ⟨(h c).1.trans (Cert.Roi.results_equal m m' c (hpre c) (hagree c)).symm, (h c).2⟩)
        (Cert.ReferenceIdeal.Value.run m' g')⟩

end Cert.Proof

end
